-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_data : Cert.Pre_finite_data.Facts),
    quiescent_Kernel (hKernel := hKernel)
    ∧ quiescent_KernelIdeal (hKernelIdeal := hKernelIdeal)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S16384x768 : Shape := ⟨2, ![16384, 768]⟩
abbrev S1024x768 : Shape := ⟨2, ![1024, 768]⟩
abbrev S768 : Shape := ⟨1, ![768]⟩
abbrev S_ : Shape := ⟨0, ![]⟩

class Facts : Prop where
  bcast_S_S16384x768 : S_.BroadcastsInDim S16384x768 (![] : Fin 0 → Fin S16384x768.rank)
  bcast_S_S1024x768 : S_.BroadcastsInDim S1024x768 (![] : Fin 0 → Fin S1024x768.rank)
  bcast_S_S768 : S_.BroadcastsInDim S768 (![] : Fin 0 → Fin S768.rank)

variable [Facts]

def fn {F : FTy → Type} [FloatOps F] (main_arg0 : FVec F S16384x768 .f32) (main_arg1 : FVec F S1024x768 .f32) (main_arg2 : FVec F S768 .f32) : IVec S16384x768 1 × IVec S1024x768 1 × IVec S768 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S1024x768 .f32 := Host.absf main_arg1
  let main_cst_0 : FVec F S_ .f32 := constant S_ .f32 0x7F800000#32
  let main_v4 : FVec F S1024x768 .f32 := broadcastInDim S1024x768 ![] bcast_S_S1024x768 main_cst_0
  let main_v5 : IVec S1024x768 1 := cmpf .olt main_v3 main_v4
  let main_cst_1 : FVec F S_ .f32 := constant S_ .f32 0x7F800000#32
  let main_v6 : FVec F S768 .f32 := broadcastInDim S768 ![] bcast_S_S768 main_cst_1
  let main_v7 : IVec S768 1 := cmpf .olt main_arg2 main_v6
  (main_v2, main_v5, main_v7)
-- ==== Kernel.lean ====
abbrev S16384x768 : Shape := ⟨2, ![16384, 768]⟩
abbrev S1024x768 : Shape := ⟨2, ![1024, 768]⟩
abbrev S768 : Shape := ⟨1, ![768]⟩
abbrev S1x768 : Shape := ⟨2, ![1, 768]⟩
abbrev S16384x1024 : Shape := ⟨2, ![16384, 1024]⟩
abbrev S2048x768 : Shape := ⟨2, ![2048, 768]⟩
abbrev S2048x1024 : Shape := ⟨2, ![2048, 1024]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S768, .f32⟩
  | .hbm, ⟨3, _⟩ => ⟨S1x768, .f32⟩
  | .hbm, ⟨4, _⟩ => ⟨S16384x1024, .f32⟩
  | .local _ .vmem, ⟨0, _⟩ => ⟨S2048x768, .f32⟩
  | .local _ .vmem, ⟨1, _⟩ => ⟨S2048x768, .f32⟩
  | .local _ .vmem, ⟨2, _⟩ => ⟨S1024x768, .f32⟩
  | .local _ .vmem, ⟨3, _⟩ => ⟨S1x768, .f32⟩
  | .local _ .vmem, ⟨4, _⟩ => ⟨S2048x1024, .f32⟩
  | .local _ .vmem, ⟨5, _⟩ => ⟨S2048x1024, .f32⟩
  | .local _ .vmem, ⟨6, _⟩ => ⟨S1024x768, .bf16⟩
  | .local _ .vmem, ⟨7, _⟩ => ⟨S1x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x768 : Shape := ⟨2, ![16384, 768]⟩
abbrev S1024x768 : Shape := ⟨2, ![1024, 768]⟩
abbrev S768 : Shape := ⟨1, ![768]⟩
abbrev S_ : Shape := ⟨0, ![]⟩
abbrev S16384 : Shape := ⟨1, ![16384]⟩
abbrev S1024 : Shape := ⟨1, ![1024]⟩
abbrev S1x768 : Shape := ⟨2, ![1, 768]⟩
abbrev S768x1024 : Shape := ⟨2, ![768, 1024]⟩
abbrev S16384x1024 : Shape := ⟨2, ![16384, 1024]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S768, .f32⟩
  | .hbm, ⟨3, _⟩ => ⟨S_, .f32⟩
  | .hbm, ⟨4, _⟩ => ⟨S_, .f32⟩
  | .hbm, ⟨5, _⟩ => ⟨S768, .f32⟩
  | .hbm, ⟨6, _⟩ => ⟨S768, .f32⟩
  | .hbm, ⟨7, _⟩ => ⟨S16384x768, .f32⟩
  | .hbm, ⟨8, _⟩ => ⟨S16384, .f32⟩
  | .hbm, ⟨9, _⟩ => ⟨S1024x768, .f32⟩
  | .hbm, ⟨10, _⟩ => ⟨S1024, .f32⟩
  | .hbm, ⟨11, _⟩ => ⟨S1x768, .f32⟩
  | .hbm, ⟨12, _⟩ => ⟨S1024x768, .f32⟩
  | .hbm, ⟨13, _⟩ => ⟨S1024x768, .f32⟩
  | .hbm, ⟨14, _⟩ => ⟨S768x1024, .f32⟩
  | .hbm, ⟨15, _⟩ => ⟨S16384x1024, .f32⟩
  | .hbm, ⟨16, _⟩ => ⟨S16384x1, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Steps.lean ====
/-
  What the body leaves behind at each grid point.

  The kernel visits eight row blocks of `X`. At the first point it also fills two scratch buffers that it keeps for the
  whole sweep: the prototypes scaled by `-2 · rc` (`scaled`) and their weighted squared norms (`norms`). Every point
  then writes one block of distances from its rows of `X` and the two scratch buffers (`tile`).

  Nothing here is arithmetic: the statements hold for any float values.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Steps

open Cert.KernelIdeal Cert.KernelIdeal.Gen
open Idealize.ShloMosaic Idealize.ShloMosaic.TcCoe Idealize.SL.Sem

variable {F : FTy → Type} [FloatOps F]

/-- The prototypes scaled by `-2 · rc`, from the row of weights and the prototypes. -/
abbrev scaled (r : Vec F S1x768 .f32) (w : Vec F S1024x768 .f32) : Vec F S1024x768 .bf16 := k0_pay2 r w

/-- The prototypes' weighted squared norms, as a row. -/
abbrev norms (r : Vec F S1x768 .f32) (w : Vec F S1024x768 .f32) : Vec F S1x1024 .f32 := k0_pay3 r w

/-- One block of distances, from the weights, the block's rows of `X` and what the scratch buffers hold. -/
abbrev tile (r : Vec F S1x768 .f32) (x : Vec F S2048x768 .f32) (s : Vec F S1024x768 .bf16) (n : Vec F S1x1024 .f32) :
    Vec F S2048x1024 .f32 := k0_pay4 r x s n

/-- The offsets of every load and store of the body: both axes from the start. -/
theorem origin : (![0, 0] : Fin 2 → Nat) = fun _ => 0 := by
  funext a; match a with
  | ⟨0, _⟩ => rfl
  | ⟨1, _⟩ => rfl

section Body

variable (c : Dev nD) (i : grid0.Coords)
  (b1 : Memref sig .tc .vmem S2048x768 .f32) (w1 : b1.IsWhole)
  (b2 : Memref sig .tc .vmem S1024x768 .f32) (w2 : b2.IsWhole)
  (b3 : Memref sig .tc .vmem S1x768 .f32) (w3 : b3.IsWhole)
  (b4 : Memref sig .tc .vmem S2048x1024 .f32) (w4 : b4.IsWhole)
  (b5 : Memref sig .tc .vmem S1024x768 .bf16) (w5 : b5.IsWhole)
  (b6 : Memref sig .tc .vmem S1x1024 .f32) (w6 : b6.IsWhole)
  (x : Vec F S2048x768 .f32) (w : Vec F S1024x768 .f32) (r : Vec F S1x768 .f32)

/-- At the first point the first scratch ends at the scaled prototypes. -/
theorem first_scaled (h : cond0_0 i) :
    sout0_A_0 c i b1 w1 b2 w2 b3 w3 b4 w4 b5 w5 b6 w6 h x w r = scaled r w := by
  unfold sout0_A_0
  rw [View.read_writes_eq_canon _ _ _ (scover0_A_0 c i b1 w1 b2 w2 b3 w3 b4 w4 b5 w5 b6 w6 h x w r)]
  unfold kernelRun0_A
  dsimp only
  sl_unfold_words
  rw [View.canon_unit_zero origin]
  simp only [View.readAt_eq_ld, w2.read_unread, w3.read_unread, View.ld_unit_zero (S := S1024x768) origin,
    View.ld_unit_zero (S := S1x768) origin]

/-- At the first point the second scratch ends at the norms. -/
theorem first_norms (h : cond0_0 i) :
    sout0_A_1 c i b1 w1 b2 w2 b3 w3 b4 w4 b5 w5 b6 w6 h x w r = norms r w := by
  unfold sout0_A_1
  rw [View.read_writes_eq_canon _ _ _ (scover0_A_1 c i b1 w1 b2 w2 b3 w3 b4 w4 b5 w5 b6 w6 h x w r)]
  unfold kernelRun0_A
  dsimp only
  sl_unfold_words
  rw [View.canon_unit_zero origin]
  simp only [View.readAt_eq_ld, w2.read_unread, w3.read_unread, View.ld_unit_zero (S := S1024x768) origin,
    View.ld_unit_zero (S := S1x768) origin]

/-- At the first point the block written is the tile over the scratch contents just stored. -/
theorem first_tile (h : cond0_0 i) :
    out0_A_3 c i b1 w1 b2 w2 b3 w3 b4 w4 b5 w5 b6 w6 h x w r = tile r x (scaled r w) (norms r w) := by
  unfold out0_A_3
  rw [View.read_writes_eq_canon _ _ _ (cover0_A_3 c i b1 w1 b2 w2 b3 w3 b4 w4 b5 w5 b6 w6 h x w r)]
  unfold kernelRun0_A
  dsimp only
  sl_unfold_words
  rw [View.canon_unit_zero origin]
  simp only [View.readAt_eq_ld, w1.read_unread, w2.read_unread, w3.read_unread,
    View.readCov_unit_zero (S := S1024x768) _ origin, View.readCov_unit_zero (S := S1x1024) _ origin,
    View.ld_unit_zero (S := S2048x768) origin, View.ld_unit_zero (S := S1024x768) origin,
    View.ld_unit_zero (S := S1x768) origin]

/-- At a later point the block written is the tile over what the scratch buffers were left holding. -/
theorem later_tile (h : ¬cond0_0 i) (s : Vec F S1024x768 .bf16) (n : Vec F S1x1024 .f32) :
    out0_B_3 c i b1 w1 b2 w2 b3 w3 b4 w4 b5 w5 b6 w6 h x w r s n = tile r x s n := by
  unfold out0_B_3
  rw [View.read_writes_eq_canon _ _ _ (cover0_B_3 c i b1 w1 b2 w2 b3 w3 b4 w4 b5 w5 b6 w6 h x w r s n)]
  unfold kernelRun0_B
  dsimp only
  sl_unfold_words
  rw [View.canon_unit_zero origin]
  simp only [View.readAt_eq_ld, w1.read_unread, w3.read_unread, w5.read_unread, w6.read_unread,
    View.ld_unit_zero (S := S2048x768) origin, View.ld_unit_zero (S := S1024x768) origin,
    View.ld_unit_zero (S := S1x768) origin, View.ld_unit_zero (S := S1x1024) origin]

end Body

variable (m : (ℓ : Loc nD τ sig) → Buf (Elt F) ℓ)

/-- The row of weights that the windows stage: the weight vector reshaped to one row by the host. -/
abbrev row (c : Dev nD) : Vec F S1x768 .f32 := V m c main_v0

/-- The prototypes, as launched. -/
abbrev protos (c : Dev nD) : Vec F S1024x768 .f32 := V m c main_arg1

/-- The block indices of the three input windows: the row block follows the point, the other two never move. -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- At every point the second window stages all prototypes. -/
theorem staged_protos (c : Dev nD) (t : Fin cfg0.N) : (iblk m c 1 t : Vec F S1024x768 .f32) = protos m c := by
  obtain ⟨-, -, e0, e1, -, -⟩ := blocks_at t
  funext y
  show V m c main_arg1 (((cfg0.win 1).blk t).view.emb y) = V m c main_arg1 y
  congr 1
  funext a; apply Fin.ext
  match a with
  | ⟨0, _⟩ => show win0_1.index t (0 : Fin 2) * 1024 + 1 * (y 0).val = (y 0).val; omega
  | ⟨1, _⟩ => show win0_1.index t (1 : Fin 2) * 768 + 1 * (y 1).val = (y 1).val; omega

/-- At every point the third window stages the whole row of weights. -/
theorem staged_row (c : Dev nD) (t : Fin cfg0.N) : (iblk m c 2 t : Vec F S1x768 .f32) = row m c := by
  obtain ⟨-, -, -, -, e0, e1⟩ := blocks_at t
  funext y
  show V m c main_v0 (((cfg0.win 2).blk t).view.emb y) = V m c main_v0 y
  congr 1
  funext a; apply Fin.ext
  match a with
  | ⟨0, _⟩ => show win0_2.index t (0 : Fin 2) * 1 + 1 * (y 0).val = (y 0).val; omega
  | ⟨1, _⟩ => show win0_2.index t (1 : Fin 2) * 768 + 1 * (y 1).val = (y 1).val; omega

/-- After every point the scratch buffers hold the scaled prototypes and the norms, and the block just written is the
    tile over them: by induction on the point, the first one storing the scratch and the later ones only reading it. -/
theorem state_at (c : Dev nD) : ∀ (n : ℕ) (h : n < cfg0.N), outsAt0 m c n h =
    (tile (row m c) (iblk m c 0 ⟨n, h⟩) (scaled (row m c) (protos m c)) (norms (row m c) (protos m c)),
      scaled (row m c) (protos m c), norms (row m c) (protos m c))
  | 0, h => by
    have e := outsAt0_A m c ⟨0, h⟩ (Nat.zero_mod 8)
    rw [first_tile, first_scaled, first_norms, staged_protos, staged_row] at e
    exact e
  | n + 1, h => by
    have hN : cfg0.N = 8 := N_0
    have hB : ¬(⟨n + 1, h⟩ : Fin cfg0.N).val % 8 = 0 := by dsimp only; omega
    have e := outsAt0_B m c ⟨n + 1, h⟩ hB
    have p : outsAt0 m c ((⟨n + 1, h⟩ : Fin cfg0.N).val - 1) (Nat.lt_of_le_of_lt (Nat.sub_le _ _) h) = _ :=
      state_at c n (Nat.lt_of_succ_lt h)
    rw [later_tile, staged_row] at e
    unfold sout0_B_0 sout0_B_1 at e
    rw [p] at e
    exact e

/-- The kernel's result at an index: the tile of the point that writes the index's row block, at the index's place. -/
theorem result_at (c : Dev nD) (i : S16384x1024.Idx) (h : Value.pt3Of i < cfg0.N) :
    Value.G3 m c i =
      tile (row m c) (iblk m c 0 ⟨Value.pt3Of i, h⟩) (scaled (row m c) (protos m c)) (norms (row m c) (protos m c))
        (Value.loc3Of i) := by
  unfold Value.G3
  rw [dif_pos h, ← Value.outsAt0_sweep m c (Value.pt3Of i) h, state_at]

end Cert.KernelIdeal.Steps

end
-- ==== Proof.Equation.lean ====
/-
  The equation between the two ways of computing one distance.

  For a row `a` of `X`, a prototype `b` and weights `r`, with `c = max 1e-6 r` elementwise, the reference computes
  `(∑ a² c + ∑ b² c) - 2 ∑ a (b c)`, the kernel `∑ a (b (-2 c)) + ∑ a² c + ∑ b² c`. On finite data both are the same
  real number. On infinite data they need not be: where the products `a b c` hold infinities of both signs, the sums
  `∑ a (b c)` and `∑ a (b (-2 c))` are both `⊥`, and the reference subtracts the one where the kernel adds the other
  (`Needed` gives examples).
-/
module

public import Idealize.ShloMosaic.Lib.Pointwise
public import Idealize.ShloMosaic.PureOps.Ideal.Laws

@[expose] public section

noncomputable section

namespace Cert.Distance

open Idealize.ShloMosaic

/-- The least weight, `1e-6` as `f32` holds it. -/
abbrev least : EReal := Ideal.ofBits .f32 0x358637BD#32

/-- The reference's factor two. -/
abbrev two : EReal := Ideal.ofBits .f32 0x40000000#32

/-- The kernel's factor minus two. -/
abbrev negTwo : EReal := Ideal.ofBits .f32 0xC0000000#32

/-- The infinity that the precondition compares with. -/
abbrev infinity : EReal := Ideal.ofBits .f32 0x7F800000#32

/-- The bits of the reference's factor are those of two. -/
theorem two_eq : two = ((2 : ℝ) : EReal) := by
  simp [Ideal.ofBits, Ideal.ieee, -EReal.coe_mul]; norm_num

/-- The bits of the kernel's factor are those of minus two. -/
theorem negTwo_eq : negTwo = ((-2 : ℝ) : EReal) := by
  simp [Ideal.ofBits, Ideal.ieee, -EReal.coe_mul, -EReal.coe_neg]; norm_num

/-- The bits of the compared infinity are those of `⊤`. -/
theorem infinity_eq : infinity = ⊤ := by
  simp [Ideal.ofBits, Ideal.ieee]

/-- The bits of the least weight, as a quotient of integers. -/
theorem least_eq : least = ((8796093 / 2 ^ 43 : ℝ) : EReal) := by
  simp [Ideal.ofBits, Ideal.ieee, -EReal.coe_mul]; norm_num

/-- A weight that is not plus infinity is a real number once clipped from below. -/
theorem clipped_real {r : EReal} (h : r < ⊤) : ∃ c : ℝ, max least r = (c : EReal) := by
  induction r with
  | bot => exact ⟨_, by rw [max_eq_left bot_le, least_eq]⟩
  | coe v => exact ⟨max (8796093 / 2 ^ 43) v, by rw [least_eq]; exact (EReal.coe_strictMono.monotone.map_max).symm⟩
  | top => exact absurd h (lt_irrefl _)

/-- A number whose absolute value is not infinite is real. -/
theorem real_of_abs {a : EReal} (h : max a (-a) < ⊤) : ∃ v : ℝ, a = (v : EReal) := by
  induction a with
  | bot => simp at h
  | coe v => exact ⟨v, rfl⟩
  | top => simp at h

variable {n : ℕ}

/-- The reference's distance between a row and a prototype. -/
def plain (a b r : Fin n → EReal) : EReal :=
  ∑ k, a k * a k * max least (r k) + ∑ k, b k * b k * max least (r k) - two * ∑ k, a k * (b k * max least (r k))

/-- The kernel's distance: the factor minus two goes into the prototype, and the squared norms are added last. -/
def folded (a b r : Fin n → EReal) : EReal :=
  ∑ k, a k * (b k * (negTwo * max least (r k))) + ∑ k, a k * a k * max least (r k) + ∑ k, b k * b k * max least (r k)

/-- A sum of real numbers is the same taken among the extended reals. -/
theorem sum_real (f : Fin n → ℝ) : ∑ k, (f k : EReal) = ((∑ k, f k : ℝ) : EReal) :=
  (map_sum (⟨⟨Real.toEReal, EReal.coe_zero⟩, EReal.coe_add⟩ : ℝ →+ EReal) f Finset.univ).symm

/-- Over the reals the factor comes out of the sum, and the three terms may be added in either order. -/
theorem real_equation (a b c : Fin n → ℝ) :
    ∑ k, a k * (b k * (-2 * c k)) + ∑ k, a k * a k * c k + ∑ k, b k * b k * c k
      = ∑ k, a k * a k * c k + ∑ k, b k * b k * c k - 2 * ∑ k, a k * (b k * c k) := by
  have h : ∑ k, a k * (b k * (-2 * c k)) = -2 * ∑ k, a k * (b k * c k) := by
    rw [Finset.mul_sum]; exact Finset.sum_congr rfl fun k _ => by ring
  rw [h]; ring

/-- On a finite row and prototype, and weights none of which is plus infinity, the two distances are equal. -/
theorem folded_eq_plain {a b r : Fin n → EReal} (ha : ∀ k, max (a k) (-a k) < ⊤) (hb : ∀ k, max (b k) (-b k) < ⊤)
    (hr : ∀ k, r k < ⊤) : folded a b r = plain a b r := by
  choose a' ha' using fun k => real_of_abs (ha k)
  choose b' hb' using fun k => real_of_abs (hb k)
  choose c' hc' using fun k => clipped_real (hr k)
  unfold folded plain
  simp only [hc', two_eq, negTwo_eq, ha', hb', ← EReal.coe_mul, sum_real, ← EReal.coe_add, ← EReal.coe_sub]
  exact congrArg _ (real_equation a' b' c')

end Cert.Distance

end
-- ==== Proof.Block.lean ====
/-
  What one point of the kernel computes, at an index, over the extended reals.
-/
module

public import proofs.«01_k».proof.Proof.Steps
public import proofs.«01_k».proof.Proof.Equation

@[expose] public section

set_option maxRecDepth 16384

noncomputable section

namespace Cert.KernelIdeal.Block

open Cert.KernelIdeal Cert.KernelIdeal.Gen Cert.KernelIdeal.Steps
open Idealize.ShloMosaic

variable (r : Vec Ideal S1x768 .f32) (w : Vec Ideal S1024x768 .f32) (x : Vec Ideal S2048x768 .f32)

/-- The first scratch holds each prototype entry times minus two times its clipped weight. -/
theorem scaled_at (q : Fin 1024) (k : Fin 768) :
    (scaled r w (ix2 q k) : EReal) = w (ix2 q k) * (Distance.negTwo * max Distance.least (r (ix2 0 k))) := by
  pointwise [k0_pay2, k0_pay1]

/-- The second scratch holds each prototype's weighted squared norm. -/
theorem norms_at (q : Fin 1024) :
    (norms r w (ix2 0 q) : EReal) = ∑ k, w (ix2 q k) * w (ix2 q k) * max Distance.least (r (ix2 0 k)) := by
  pointwise [k0_pay3, k0_pay1]

/-- A tile's entry: the row's product with the first scratch, plus the row's weighted squared norm, plus the second
    scratch's entry. -/
theorem tile_at (s : Vec Ideal S1024x768 .bf16) (n : Vec Ideal S1x1024 .f32) (p : Fin 2048) (q : Fin 1024) :
    (tile r x s n (ix2 p q) : EReal) =
      ∑ k, x (ix2 p k) * s (ix2 q k) + ∑ k, x (ix2 p k) * x (ix2 p k) * max Distance.least (r (ix2 0 k))
        + n (ix2 0 q) := by
  pointwise [k0_pay4, k0_pay1]

/-- Over the scratch that the first point stores, a tile's entry is the folded distance of its row and prototype. -/
theorem tile_folded (p : Fin 2048) (q : Fin 1024) :
    (tile r x (scaled r w) (norms r w) (ix2 p q) : EReal) =
      Distance.folded (fun k : Fin 768 => x (ix2 p k)) (fun k => w (ix2 q k)) (fun k => r (ix2 0 k)) := by
  rw [tile_at, norms_at]
  exact congrArg (· + _ + _) (Finset.sum_congr rfl fun k _ => congrArg _ (scaled_at r w q k))

end Cert.KernelIdeal.Block

end
-- ==== Proof.Array.lean ====
/-
  What the kernel's result array holds, at an index: the folded distance of the index's row of `X` and its prototype.
-/
module

public import proofs.«01_k».proof.Proof.Block
public import Idealize.ShloMosaic.Lib.StableHlo.ReadAt

@[expose] public section

set_option maxRecDepth 16384

noncomputable section

namespace Cert.KernelIdeal.Array

open Cert.KernelIdeal Cert.KernelIdeal.Gen Cert.KernelIdeal.Steps
open Idealize.ShloMosaic Idealize.ShloMosaic.TcCoe Idealize.SL.Sem

variable (m : (ℓ : Loc nD τ sig) → Buf (Elt Ideal) ℓ)

/-- The three argument arrays, as launched. -/
abbrev data (c : Dev nD) : Vec Ideal S16384x768 .f32 := m ((c.tc : Thread nD τ).loc main_arg0)
@[inherit_doc data] abbrev prototypes (c : Dev nD) : Vec Ideal S1024x768 .f32 := m ((c.tc : Thread nD τ).loc main_arg1)
@[inherit_doc data] abbrev weights (c : Dev nD) : Vec Ideal S768 .f32 := m ((c.tc : Thread nD τ).loc main_arg2)

/-- The row that the windows stage holds the weights in order. -/
theorem row_at (c : Dev nD) (k : Fin 768) : row m c (ix2 0 k) = weights m c (ix1 k) := by
  unfold row V
  after_reads_at

/-- Block `t` of the first window is rows `2048 t` and on of `X`. -/
theorem staged_data (c : Dev nD) (t : Fin cfg0.N) (p : Fin 2048) (k : Fin 768) (g : Fin 16384)
    (hg : g.val = t.val * 2048 + p.val) :
    (iblk m c 0 t : Vec Ideal S2048x768 .f32) (ix2 p k) = data m c (ix2 g k) := by
  obtain ⟨e0, e1, -⟩ := blocks_at t
  show V m c main_arg0 (((cfg0.win 0).blk t).view.emb (ix2 p k)) = _
  rw [V_main_arg0]
  refine congrArg (data m c) ?_
  funext a; apply Fin.ext
  match a with
  | ⟨0, _⟩ => show win0_0.index t (0 : Fin 2) * 2048 + 1 * p.val = g.val; omega
  | ⟨1, _⟩ => show win0_0.index t (1 : Fin 2) * 768 + 1 * k.val = k.val; omega

/-- The result at row `g` and prototype `q` is their folded distance under the clipped weights. -/
theorem result_folded (c : Dev nD) (g : Fin 16384) (q : Fin 1024) :
    (Value.G3 m c (ix2 g q) : EReal) =
      Distance.folded (fun k : Fin 768 => data m c (ix2 g k)) (fun k => prototypes m c (ix2 q k))
        (fun k => weights m c (ix1 k)) := by
  have hN : cfg0.N = 8 := N_0
  have hp : Value.pt3Of (ix2 g q) = g.val / 2048 := by
    show 1 * (g.val / 2048 - 0) + 1 * (q.val / 1024 - 0) = _
    omega
  have h : Value.pt3Of (ix2 g q) < cfg0.N := by omega
  have hl : Value.loc3Of (ix2 g q) = ix2 (⟨g.val % 2048, by omega⟩ : Fin 2048) q := by
    funext a; apply Fin.ext
    match a with
    | ⟨0, _⟩ => rfl
    | ⟨1, _⟩ => exact Nat.mod_eq_of_lt q.isLt
  rw [result_at m c _ h, hl, Block.tile_folded]
  have hx : ∀ k : Fin 768, (iblk m c 0 ⟨Value.pt3Of (ix2 g q), h⟩ : Vec Ideal S2048x768 .f32)
      (ix2 (⟨g.val % 2048, by omega⟩ : Fin 2048) k) = data m c (ix2 g k) := fun k =>
    staged_data m c _ _ k g (by dsimp only; rw [hp]; omega)
  have hr : ∀ k : Fin 768, row m c (ix2 0 k) = weights m c (ix1 k) := row_at m c
  have hw : protos m c = prototypes m c := V_main_arg1 m c
  rw [hw]
  exact congrArg₂ (fun a r => Distance.folded a _ r) (funext hx) (funext hr)

end Cert.KernelIdeal.Array

end
-- ==== Proof.Finite.lean ====
/-
  What the precondition says of the arguments: `X` and `W` hold no infinity, and no weight is plus infinity.
-/
module

public import proofs.«01_k».proof.Pre_finite_data
public import proofs.«01_k».proof.Proof.Equation

@[expose] public section

set_option maxRecDepth 16384

noncomputable section

namespace Cert.Finite

open Cert.Pre_finite_data
open Idealize.ShloMosaic

/-- The shape relations of the precondition's three broadcasts. -/
theorem facts : Cert.Pre_finite_data.Facts where
  bcast_S_S16384x768 := by decide
  bcast_S_S1024x768 := by decide
  bcast_S_S768 := by decide

/-- A number that the comparison with infinity finds less is below `⊤`. -/
theorem below_of_true {a : EReal} (h : BitVec.ofBool (decide (a < Distance.infinity)) = 1#1) : a < ⊤ := by
  rw [← Distance.infinity_eq]
  by_contra hn
  rw [decide_eq_false hn] at h
  exact absurd h (by decide)

variable [Cert.Pre_finite_data.Facts] (x : FVec Ideal S16384x768 .f32) (w : FVec Ideal S1024x768 .f32)
  (r : FVec Ideal S768 .f32)

/-- The first component: every entry of `X` has a finite absolute value. -/
theorem data_finite (h : (fn (F := Ideal) x w r).1 = fun _ => 1#1) (i : Fin 16384) (k : Fin 768) :
    max (x (ix2 i k) : EReal) (-x (ix2 i k)) < ⊤ := by
  have e := congrFun h (ix2 i k)
  pointwise [fn] at e
  exact below_of_true e

/-- The second component: every entry of `W` has a finite absolute value. -/
theorem prototypes_finite (h : (fn (F := Ideal) x w r).2.1 = fun _ => 1#1) (i : Fin 1024) (k : Fin 768) :
    max (w (ix2 i k) : EReal) (-w (ix2 i k)) < ⊤ := by
  have e := congrFun h (ix2 i k)
  pointwise [fn] at e
  exact below_of_true e

/-- The third component: no weight is plus infinity. -/
theorem weights_below (h : (fn (F := Ideal) x w r).2.2 = fun _ => 1#1) (k : Fin 768) :
    (r (ix1 k) : EReal) < ⊤ := by
  have e := congrFun h (ix1 k)
  pointwise [fn] at e
  exact below_of_true e

end Cert.Finite

end
-- ==== Proof.Needed.lean ====
/-
  Why the precondition has its three parts: with any one of them dropped the two distances can differ.

  Each example fills the first two places of the row, the prototype and the weights; elsewhere the row and the
  prototype are zero and the weight is one. The two products at those places are infinities of opposite sign.
-/
module

public import proofs.«01_k».proof.Proof.Equation

@[expose] public section

noncomputable section

namespace Cert.Distance

open Idealize.ShloMosaic

/-- The vector of 768 entries with two given leading entries and a constant after them. -/
def lead (u v z : EReal) : Fin 768 → EReal := Fin.cons u (Fin.cons v fun _ : Fin 766 => z)

/-- Clipping leaves the weight one as it is. -/
theorem clip_one : max least 1 = 1 := by
  refine max_eq_right ?_
  rw [least_eq, ← EReal.coe_one, EReal.coe_le_coe_iff]
  norm_num

/-- Clipping leaves an infinite weight as it is. -/
theorem clip_top : max least ⊤ = ⊤ := max_eq_right le_top

/-- A sum over vectors with two leading entries: two terms and the sum of a term that stays the same. -/
theorem sum_lead (f : EReal → EReal → EReal → EReal) (u v z u' v' z' u'' v'' z'' : EReal) (hf : f z z' z'' = 0) :
    ∑ k, f (lead u v z k) (lead u' v' z' k) (lead u'' v'' z'' k) = f u u' u'' + f v v' v'' := by
  rw [Fin.sum_univ_succ, Fin.sum_univ_succ]
  simp [lead, hf]

/-- The kernel's distance where everything after the first two places is zero. -/
theorem folded_lead (u v u' v' u'' v'' : EReal) : folded (lead u v 0) (lead u' v' 0) (lead u'' v'' 1) =
    (u * (u' * (negTwo * max least u'')) + v * (v' * (negTwo * max least v'')))
      + (u * u * max least u'' + v * v * max least v'') + (u' * u' * max least u'' + v' * v' * max least v'') := by
  unfold folded
  rw [sum_lead (fun a b r => a * (b * (negTwo * max least r))) _ _ _ _ _ _ _ _ _ (by simp),
    sum_lead (fun a _ r => a * a * max least r) _ _ _ u' v' 0 _ _ _ (by simp),
    sum_lead (fun _ b r => b * b * max least r) u v 0 _ _ _ _ _ _ (by simp)]

/-- The reference's distance where everything after the first two places is zero. -/
theorem plain_lead (u v u' v' u'' v'' : EReal) : plain (lead u v 0) (lead u' v' 0) (lead u'' v'' 1) =
    (u * u * max least u'' + v * v * max least v'') + (u' * u' * max least u'' + v' * v' * max least v'')
      - two * (u * (u' * max least u'') + v * (v' * max least v'')) := by
  unfold plain
  rw [sum_lead (fun a b r => a * (b * max least r)) _ _ _ _ _ _ _ _ _ (by simp),
    sum_lead (fun a _ r => a * a * max least r) _ _ _ u' v' 0 _ _ _ (by simp),
    sum_lead (fun _ b r => b * b * max least r) u v 0 _ _ _ _ _ _ (by simp)]

/-- Minus two times plus infinity. -/
theorem negTwo_top : negTwo * ⊤ = ⊥ := by
  rw [negTwo_eq]; exact EReal.coe_mul_top_of_neg (by norm_num)

/-- Minus two times minus infinity. -/
theorem negTwo_bot : negTwo * ⊥ = ⊤ := by
  rw [negTwo_eq]; exact EReal.coe_mul_bot_of_neg (by norm_num)

/-- Two times minus infinity. -/
theorem two_bot : two * ⊥ = ⊥ := by
  rw [two_eq]; exact EReal.coe_mul_bot_of_pos (by norm_num)

/-- One and one is not minus infinity, so plus infinity absorbs it. -/
theorem top_add_two : (⊤ : EReal) + (1 + 1) = ⊤ := rfl

/-- Without the part on `X`: a row that holds infinities of both signs, with finite prototype and weights. -/
theorem data_part_needed :
    folded (lead ⊤ ⊥ 0) (lead 1 1 0) (lead 1 1 1) ≠ plain (lead ⊤ ⊥ 0) (lead 1 1 0) (lead 1 1 1) := by
  rw [folded_lead, plain_lead, clip_one]
  simp only [one_mul, mul_one, mul_comm _ negTwo, negTwo_top, negTwo_bot, EReal.top_mul_top, EReal.bot_mul_bot,
    EReal.bot_add, EReal.add_bot, EReal.top_add_top, two_bot, top_add_two]
  simp

/-- Without the part on `W`: a prototype that holds infinities of both signs, with finite row and weights. -/
theorem prototype_part_needed :
    folded (lead 1 1 0) (lead ⊤ ⊥ 0) (lead 1 1 1) ≠ plain (lead 1 1 0) (lead ⊤ ⊥ 0) (lead 1 1 1) := by
  rw [folded_lead, plain_lead, clip_one]
  simp only [one_mul, mul_one, mul_comm _ negTwo, negTwo_top, negTwo_bot, EReal.top_mul_top, EReal.bot_mul_bot,
    EReal.bot_add, EReal.add_bot, EReal.top_add_top, two_bot, add_comm _ (⊤ : EReal), top_add_two]
  simp

/-- Without the part on the weights: an infinite weight, with a finite row of mixed sign and a finite prototype. -/
theorem weight_part_needed :
    folded (lead 1 (-1) 0) (lead 1 1 0) (lead ⊤ ⊤ 1) ≠ plain (lead 1 (-1) 0) (lead 1 1 0) (lead ⊤ ⊤ 1) := by
  rw [folded_lead, plain_lead, clip_top]
  simp only [one_mul, neg_mul, mul_neg, neg_neg, mul_one, negTwo_top, EReal.neg_top, EReal.neg_bot, EReal.bot_add,
    EReal.add_bot, EReal.top_add_top, two_bot]
  simp

end Cert.Distance

end
-- ==== Proof.Reference.lean ====
/-
  What the reference's result array holds, at an index: the plain distance of the index's row of `X` and its prototype.
-/
module

public import proofs.«01_k».proof.Proof.Gen.ReferenceIdeal.Run
public import proofs.«01_k».proof.Proof.Equation

@[expose] public section

set_option maxRecDepth 16384

noncomputable section

namespace Cert.ReferenceIdeal.Array

open Cert.ReferenceIdeal Cert.ReferenceIdeal.Gen
open Idealize.ShloMosaic Idealize.SL.Sem

variable (m : (ℓ : Loc nD τ sig) → Buf (Elt Ideal) ℓ)

/-- The reference's result array: at every index the plain distance. -/
def result (c : Dev nD) : Vec Ideal S16384x1024 .f32 := fun i =>
  Distance.plain (fun k : Fin 768 => m ((c.tc : Thread nD τ).loc main_arg0) (ix2 (i 0) k))
    (fun k => m ((c.tc : Thread nD τ).loc main_arg1) (ix2 (i 1) k)) (fun k => m ((c.tc : Thread nD τ).loc main_arg2) (ix1 k))

/-- Every execution of the reference ends with the plain distances in the result and the arguments unchanged. -/
theorem run_plain (ρ : Dev nD → PrngReg) :
    θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  funext i
  idx_vars i
  unfold result Distance.plain
  pointwise
  rfl

end Cert.ReferenceIdeal.Array

end
-- ==== Proof.lean ====
/-
  The certificate: the frames of the three programs and the equality of the results.
-/
module

public import proofs.«01_k».proof.Defs
public import proofs.«01_k».proof.Proof.Gen.Kernel.Frame
public import proofs.«01_k».proof.Proof.Array
public import proofs.«01_k».proof.Proof.Finite
public import proofs.«01_k».proof.Proof.Needed
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference owns no semaphore, so each of its executions ends quiescent; the arguments are unchanged. -/
theorem reference_quiescent : quiescent_ReferenceIdeal := fun m ρ _ =>
  (θ_run Cert.ReferenceIdeal.defs _ _).mono
    (fun r h => ⟨fun c => (h c).2, sem_eq_zero_of_no_sems (by decide) r.2⟩)
    (Cert.ReferenceIdeal.Array.run_plain m ρ)

/-- On finite data the kernel's result is the reference's: the folded distance is the plain one at every index. -/
theorem same_result [Cert.Pre_finite_data.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hf : Pre_KernelIdeal_finite_data m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Array.result m' c = Cert.KernelIdeal.Value.G3 m c := by
  obtain ⟨hx, hw, hr⟩ := hf c
  funext i
  obtain ⟨g, q, rfl⟩ : ∃ (g : Fin 16384) (q : Fin 1024), i = ix2 g q := ⟨i 0, i 1, eq_ix2 i⟩
  refine Eq.trans ?_ (Cert.KernelIdeal.Array.result_folded m c g q).symm
  unfold Cert.ReferenceIdeal.Array.result
  rw [h0, h1, h2]
  exact (Distance.folded_eq_plain (fun k => Finite.data_finite _ _ _ hx g k)
    (fun k => Finite.prototypes_finite _ _ _ hw q k) (fun k => Finite.weights_below _ _ _ hr k)).symm

/-- On finite data every execution of the kernel and of the reference ends with the same result, arguments unchanged. -/
theorem results_equal [Cert.Pre_finite_data.Facts] : algebraic_KernelIdeal_ReferenceIdeal_pre_finite_data := by
  intro m ρ m' ρ' hf agree
  refine ⟨_, Cert.KernelIdeal.Value.run (F := Ideal) m ρ, ?_⟩
  exact (θ_run Cert.ReferenceIdeal.defs _ _).mono
    (fun _ h c => ⟨(h c).1.trans (same_result m m' c hf (agree c).1 (agree c).2.1 (agree c).2.2), (h c).2⟩)
    (Cert.ReferenceIdeal.Array.run_plain m' ρ')

/-- Everything the certificate claims. -/
theorem claim : Cert.Claim :=
  ⟨Cert.Kernel.Gen.facts, Cert.KernelIdeal.Gen.facts, Cert.ReferenceIdeal.Gen.facts, Finite.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    (trivial : preserves_Kernel_KernelIdeal),
    letI := Finite.facts; results_equal⟩

end Cert.Proof

end
